-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x165 : Shape := ⟨2, ![4096, 165]⟩
abbrev S165x4096 : Shape := ⟨2, ![165, 4096]⟩
abbrev S59x11x15x4096 : Shape := ⟨4, ![59, 11, 15, 4096]⟩
abbrev S4096x59x11x15 : Shape := ⟨4, ![4096, 59, 11, 15]⟩
abbrev S165x128 : Shape := ⟨2, ![165, 128]⟩
abbrev S59x11x15x128 : Shape := ⟨4, ![59, 11, 15, 128]⟩
abbrev S15x128 : Shape := ⟨2, ![15, 128]⟩
abbrev S1x1x15x128 : Shape := ⟨4, ![1, 1, 15, 128]⟩

abbrev nBuf : Space → Nat
  | .hbm => 4
  | .vmem => 4
  | .smem => 0
  | _ => 0

abbrev bufTy : (tb : Table) → Fin (tcTables nBuf tb) → BufTy
  | .hbm, ⟨0, _⟩ => ⟨S4096x165, .i32⟩
  | .hbm, ⟨1, _⟩ => ⟨S165x4096, .i32⟩
  | .hbm, ⟨2, _⟩ => ⟨S59x11x15x4096, .f32⟩
  | .hbm, ⟨3, _⟩ => ⟨S4096x59x11x15, .f32⟩
  | .local _ .vmem, ⟨0, _⟩ => ⟨S165x128, .i32⟩
  | .local _ .vmem, ⟨1, _⟩ => ⟨S165x128, .i32⟩
  | .local _ .vmem, ⟨2, _⟩ => ⟨S59x11x15x128, .f32⟩
  | .local _ .vmem, ⟨3, _⟩ => ⟨S59x11x15x128, .f32⟩
  | _, _ => ⟨S4096x165, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S165x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S59x11x15x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x165 : Shape := ⟨2, ![4096, 165]⟩
abbrev S10 : Shape := ⟨1, ![10]⟩
abbrev S1x10x1 : Shape := ⟨3, ![1, 10, 1]⟩
abbrev S4096x1x165 : Shape := ⟨3, ![4096, 1, 165]⟩
abbrev S4096x10x165 : Shape := ⟨3, ![4096, 10, 165]⟩
abbrev S_ : Shape := ⟨0, ![]⟩
abbrev S4096x59x165 : Shape := ⟨3, ![4096, 59, 165]⟩
abbrev S4096 : Shape := ⟨1, ![4096]⟩
abbrev S4096x1x1 : Shape := ⟨3, ![4096, 1, 1]⟩
abbrev S165 : Shape := ⟨1, ![165]⟩
abbrev S1x1x165 : Shape := ⟨3, ![1, 1, 165]⟩
abbrev S4096x10x165x1 : Shape := ⟨4, ![4096, 10, 165, 1]⟩
abbrev S4096x10x165x3 : Shape := ⟨4, ![4096, 10, 165, 3]⟩
abbrev S4096x59x11x15 : Shape := ⟨4, ![4096, 59, 11, 15]⟩

abbrev nBuf : Space → Nat
  | .hbm => 87
  | .vmem => 0
  | .smem => 0
  | _ => 0

abbrev bufTy : (tb : Table) → Fin (tcTables nBuf tb) → BufTy
  | .hbm, ⟨0, _⟩ => ⟨S4096x165, .i32⟩
  | .hbm, ⟨1, _⟩ => ⟨S10, .i32⟩
  | .hbm, ⟨2, _⟩ => ⟨S1x10x1, .i32⟩
  | .hbm, ⟨3, _⟩ => ⟨S1x10x1, .i32⟩
  | .hbm, ⟨4, _⟩ => ⟨S1x10x1, .i32⟩
  | .hbm, ⟨5, _⟩ => ⟨S4096x1x165, .i32⟩
  | .hbm, ⟨6, _⟩ => ⟨S4096x10x165, .i32⟩
  | .hbm, ⟨7, _⟩ => ⟨S4096x10x165, .i32⟩
  | .hbm, ⟨8, _⟩ => ⟨S4096x10x165, .i32⟩
  | .hbm, ⟨9, _⟩ => ⟨S4096x1x165, .i32⟩
  | .hbm, ⟨10, _⟩ => ⟨S1x10x1, .i32⟩
  | .hbm, ⟨11, _⟩ => ⟨S4096x10x165, .i32⟩
  | .hbm, ⟨12, _⟩ => ⟨S4096x10x165, .i32⟩
  | .hbm, ⟨13, _⟩ => ⟨S4096x10x165, .i1⟩
  | .hbm, ⟨14, _⟩ => ⟨S4096x10x165, .i32⟩
  | .hbm, ⟨15, _⟩ => ⟨S4096x10x165, .i32⟩
  | .hbm, ⟨16, _⟩ => ⟨S4096x10x165, .i32⟩
  | .hbm, ⟨17, _⟩ => ⟨S_, .i32⟩
  | .hbm, ⟨18, _⟩ => ⟨S4096x10x165, .i32⟩
  | .hbm, ⟨19, _⟩ => ⟨S4096x10x165, .i1⟩
  | .hbm, ⟨20, _⟩ => ⟨S4096x10x165, .i1⟩
  | .hbm, ⟨21, _⟩ => ⟨S_, .i32⟩
  | .hbm, ⟨22, _⟩ => ⟨S4096x10x165, .i32⟩
  | .hbm, ⟨23, _⟩ => ⟨S4096x10x165, .i32⟩
  | .hbm, ⟨24, _⟩ => ⟨S4096x10x165, .i32⟩
  | .hbm, ⟨25, _⟩ => ⟨S_, .i32⟩
  | .hbm, ⟨26, _⟩ => ⟨S1x10x1, .i32⟩
  | .hbm, ⟨27, _⟩ => ⟨S1x10x1, .i1⟩
  | .hbm, ⟨28, _⟩ => ⟨S_, .i32⟩
  | .hbm, ⟨29, _⟩ => ⟨S1x10x1, .i32⟩
  | .hbm, ⟨30, _⟩ => ⟨S1x10x1, .i32⟩
  | .hbm, ⟨31, _⟩ => ⟨S4096x10x165, .i32⟩
  | .hbm, ⟨32, _⟩ => ⟨S4096x10x165, .i32⟩
  | .hbm, ⟨33, _⟩ => ⟨S_, .i32⟩
  | .hbm, ⟨34, _⟩ => ⟨S4096x10x165, .i32⟩
  | .hbm, ⟨35, _⟩ => ⟨S4096x10x165, .i1⟩
  | .hbm, ⟨36, _⟩ => ⟨S_, .i32⟩
  | .hbm, ⟨37, _⟩ => ⟨S4096x10x165, .i32⟩
  | .hbm, ⟨38, _⟩ => ⟨S4096x10x165, .i1⟩
  | .hbm, ⟨39, _⟩ => ⟨S_, .i32⟩
  | .hbm, ⟨40, _⟩ => ⟨S1x10x1, .i32⟩
  | .hbm, ⟨41, _⟩ => ⟨S1x10x1, .i1⟩
  | .hbm, ⟨42, _⟩ => ⟨S4096x10x165, .i1⟩
  | .hbm, ⟨43, _⟩ => ⟨S4096x10x165, .i1⟩
  | .hbm, ⟨44, _⟩ => ⟨S4096x10x165, .i1⟩
  | .hbm, ⟨45, _⟩ => ⟨S4096x10x165, .i32⟩
  | .hbm, ⟨46, _⟩ => ⟨S4096x10x165, .i32⟩
  | .hbm, ⟨47, _⟩ => ⟨S4096x10x165, .i32⟩
  | .hbm, ⟨48, _⟩ => ⟨S4096x10x165, .i32⟩
  | .hbm, ⟨49, _⟩ => ⟨S4096x10x165, .i32⟩
  | .hbm, ⟨50, _⟩ => ⟨S_, .f32⟩
  | .hbm, ⟨51, _⟩ => ⟨S4096x59x165, .f32⟩
  | .hbm, ⟨52, _⟩ => ⟨S4096, .i32⟩
  | .hbm, ⟨53, _⟩ => ⟨S4096x1x1, .i32⟩
  | .hbm, ⟨54, _⟩ => ⟨S165, .i32⟩
  | .hbm, ⟨55, _⟩ => ⟨S1x1x165, .i32⟩
  | .hbm, ⟨56, _⟩ => ⟨S_, .i32⟩
  | .hbm, ⟨57, _⟩ => ⟨S4096x1x1, .i32⟩
  | .hbm, ⟨58, _⟩ => ⟨S4096x1x1, .i1⟩
  | .hbm, ⟨59, _⟩ => ⟨S_, .i32⟩
  | .hbm, ⟨60, _⟩ => ⟨S4096x1x1, .i32⟩
  | .hbm, ⟨61, _⟩ => ⟨S4096x1x1, .i32⟩
  | .hbm, ⟨62, _⟩ => ⟨S4096x1x1, .i32⟩
  | .hbm, ⟨63, _⟩ => ⟨S_, .i32⟩
  | .hbm, ⟨64, _⟩ => ⟨S4096x10x165, .i32⟩
  | .hbm, ⟨65, _⟩ => ⟨S4096x10x165, .i1⟩
  | .hbm, ⟨66, _⟩ => ⟨S_, .i32⟩
  | .hbm, ⟨67, _⟩ => ⟨S4096x10x165, .i32⟩
  | .hbm, ⟨68, _⟩ => ⟨S4096x10x165, .i32⟩
  | .hbm, ⟨69, _⟩ => ⟨S4096x10x165, .i32⟩
  | .hbm, ⟨70, _⟩ => ⟨S_, .i32⟩
  | .hbm, ⟨71, _⟩ => ⟨S1x1x165, .i32⟩
  | .hbm, ⟨72, _⟩ => ⟨S1x1x165, .i1⟩
  | .hbm, ⟨73, _⟩ => ⟨S_, .i32⟩
  | .hbm, ⟨74, _⟩ => ⟨S1x1x165, .i32⟩
  | .hbm, ⟨75, _⟩ => ⟨S1x1x165, .i32⟩
  | .hbm, ⟨76, _⟩ => ⟨S1x1x165, .i32⟩
  | .hbm, ⟨77, _⟩ => ⟨S4096x10x165, .i32⟩
  | .hbm, ⟨78, _⟩ => ⟨S4096x10x165, .i32⟩
  | .hbm, ⟨79, _⟩ => ⟨S4096x10x165x1, .i32⟩
  | .hbm, ⟨80, _⟩ => ⟨S4096x10x165x1, .i32⟩
  | .hbm, ⟨81, _⟩ => ⟨S4096x10x165x1, .i32⟩
  | .hbm, ⟨82, _⟩ => ⟨S4096x10x165x3, .i32⟩
  | .hbm, ⟨83, _⟩ => ⟨S_, .f32⟩
  | .hbm, ⟨84, _⟩ => ⟨S4096x10x165, .f32⟩
  | .hbm, ⟨85, _⟩ => ⟨S4096x59x165, .f32⟩
  | .hbm, ⟨86, _⟩ => ⟨S4096x59x11x15, .f32⟩
  | _, _ => ⟨S4096x165, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_c_0 : Ref sig .tc := ⟨.hbm, 21, rfl⟩
abbrev main_call0_v14 : Ref sig .tc := ⟨.hbm, 22, rfl⟩
abbrev main_call0_v15 : Ref sig .tc := ⟨.hbm, 23, rfl⟩
abbrev main_v2 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_v6 : Ref sig .tc := ⟨.hbm, 34, rfl⟩
abbrev main_call1_v7 : Ref sig .tc := ⟨.hbm, 35, rfl⟩
abbrev main_call1_c_2 : Ref sig .tc := ⟨.hbm, 36, rfl⟩
abbrev main_call1_v8 : Ref sig .tc := ⟨.hbm, 37, rfl⟩
abbrev main_call1_v9 : Ref sig .tc := ⟨.hbm, 38, rfl⟩
abbrev main_call1_c_3 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_c_2 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_4 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_6 : Ref sig .tc := ⟨.hbm, 70, rfl⟩
abbrev main_v21 : Ref sig .tc := ⟨.hbm, 71, rfl⟩
abbrev main_v22 : Ref sig .tc := ⟨.hbm, 72, rfl⟩
abbrev main_c_7 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_8 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩

abbrev nD : Nat := 1
abbrev τ : Topo := Topo.v7x

variable {F : FTy → Type} [FloatOps F]
-- ==== Proof.Channels.lean ====
/-
  The block that one grid point of the kernel writes, as one function of its two packed words.

  The body forms two words per code position, `lo` (channels 0 … 31) and `hi` (channels 32 … 58), and then stores one
  [15, 128] slab per channel `j` and row `r`: bit `j` of the words at positions 15 r … 15 r + 14, as a float. The slabs
  are listed here by one recursion (`slabs`), and read back as one function of the index (`block`).
-/
module

public import Idealize.ShloMosaic.Lib.Pointwise
public import Idealize.ShloMosaic.Lib.Ring
public import Idealize.ShloMosaic.Lib.Pipeline.ValueKit

@[expose] public section

set_option maxRecDepth 16384

noncomputable section

namespace Cert.Decode

open Idealize.ShloMosaic

/-- The packed words of a block: 165 positions by 128 rows of the batch. -/
abbrev Words : Shape := ⟨2, ![165, 128]⟩
/-- One slab of 15 positions. -/
abbrev Slab : Shape := ⟨2, ![15, 128]⟩
/-- The same slab as a piece of the block. -/
abbrev Slab4 : Shape := ⟨4, ![1, 1, 15, 128]⟩
/-- The block: channel, row, column, batch. -/
abbrev Block : Shape := ⟨4, ![59, 11, 15, 128]⟩

variable {F : FTy → Type} [FloatOps F]

/-- Bit `j % 32` of a word, as a float: the word shifted right by that much, its lowest bit converted. -/
def bitOf (w : BitVec 32) (j : ℕ) : F .f32 :=
  FloatOps.sitofp .f32 (IntOp.andi (IntOp.shrsi .vector w (BitVec.ofNat 32 (j % 32))) 1#32)

/-- The words that channel `j` reads: the low ones below channel 32, the high ones from there. -/
abbrev wordsOf (lo hi : IVec Words 32) (j : ℕ) : IVec Words 32 :=
  Bool.rec (motive := fun _ => IVec Words 32) hi lo (Nat.blt j 32)

/-- The block as a function of the index: at (channel, row, column, batch) the channel's bit of the word at position
    15 · row + column. -/
def block (lo hi : IVec Words 32) : FVec F Block .f32 := fun y =>
  bitOf (wordsOf lo hi (y 0).val (ix2 (⟨15 * (y 1).val + (y 2).val, by
    have h1 : (y 1).val < 11 := (y 1).isLt
    have h2 : (y 2).val < 15 := (y 2).isLt
    omega⟩ : Fin 165) (⟨(y 3).val, (y 3).isLt⟩ : Fin 128))) (y 0).val

/-- The slab of channel `n % 59` and row `n / 59` (the row kept below 11) lies in the block. -/
theorem slab_inb (n : ℕ) : ∀ a, (![n % 59, n / 59 % 11, 0, 0] : Fin 4 → ℕ) a + Slab4.size a ≤ Block.size a := by
  intro a
  fin_cases a
  · show n % 59 + 1 ≤ 59; omega
  · show n / 59 % 11 + 1 ≤ 11; omega
  · show 0 + 15 ≤ 15; omega
  · show 0 + 128 ≤ 128; omega

/-- The 15 positions of row `r` are a slice of the 165. -/
theorem slab_slices (n : ℕ) : Words.Slices ![15 * (n / 59 % 11), 0] Slab := by
  refine ⟨rfl, fun a => ?_⟩
  fin_cases a
  · show 15 * (n / 59 % 11) + 15 ≤ 165; omega
  · show 0 + 128 ≤ 128; omega

/-- What store number `n` of the body writes: the bit of channel `n % 59` at the 15 positions of row `n / 59`. -/
def slabVal (lo hi : IVec Words 32) (n : ℕ) : FVec F Slab4 .f32 :=
  shapeCast Slab4 (sitofp (F := F) .f32 (andi (shrsi (extractStridedSlice Slab ![15 * (n / 59 % 11), 0] (wordsOf lo hi (n % 59)) (slab_slices n))
    (broadcast Slab (BitVec.ofNat 32 (n % 59 % 32)))) (broadcast Slab 1#32))) (by decide)

/-- Store number `n` of the body: the slab of channel `n % 59` and row `n / 59`, and what is stored there. -/
def slab (lo hi : IVec Words 32) (n : ℕ) : View.Piece (Elt F) Block .f32 :=
  ⟨Rect.unit (s := Block) ![n % 59, n / 59 % 11, 0, 0] Slab4.size (slab_inb n), slabVal lo hi n⟩

/-- The body's first `n` stores, the last one first. -/
def slabs (lo hi : IVec Words 32) (n : ℕ) : List (View.Piece (Elt F) Block .f32) :=
  Nat.rec (motive := fun _ => List (View.Piece (Elt F) Block .f32)) [] (fun k l => slab lo hi k :: l) n

/-- One store more goes on top of those before it. -/
theorem slabs_succ (lo hi : IVec Words 32) (n : ℕ) :
    slabs (F := F) lo hi (n + 1) = slab lo hi n :: slabs lo hi n := rfl

/-- The stored slab at an index: the channel's bit of the word at its position. -/
theorem slabVal_apply (lo hi : IVec Words 32) (n : ℕ) (u v : Fin 1) (i : Fin 15) (l : Fin 128) :
    slabVal (F := F) lo hi n (ix4 u v i l) = bitOf (wordsOf lo hi (n % 59)
      (ix2 (⟨15 * (n / 59 % 11) + i.val, by omega⟩ : Fin 165) l)) (n % 59) := by
  pointwise [slabVal, bitOf]

/-- Every slab holds, at every index of the block that it covers, the block's value there. -/
theorem slab_at (lo hi : IVec Words 32) (n : ℕ) (y : Block.Idx) (x : Slab4.Idx)
    (hx : ∀ a, (y a).val = (![n % 59, n / 59 % 11, 0, 0] : Fin 4 → ℕ) a + (x a).val) :
    slabVal (F := F) lo hi n x = block lo hi y := by
  have h0 : (y 0).val = n % 59 + (x 0).val := hx 0
  have h1 : (y 1).val = n / 59 % 11 + (x 1).val := hx 1
  have h2 : (y 2).val = 0 + (x 2).val := hx 2
  have h3 : (y 3).val = 0 + (x 3).val := hx 3
  have x0 : (x 0).val < 1 := (x 0).isLt
  have x1 : (x 1).val < 1 := (x 1).isLt
  have e0 : (y 0).val = n % 59 := by omega
  have e1 : (y 1).val = n / 59 % 11 := by omega
  have e2 : (y 2).val = (x 2).val := by omega
  have e3 : (y 3).val = (x 3).val := by omega
  rw [eq_ix4 x]
  refine (slabVal_apply lo hi n _ _ _ _).trans ?_
  unfold block
  simp only [e0, e1, e2, e3]
  rfl

/-- All the stores agree with the block: the first `n` of them, at any index. -/
theorem slabs_allAt (lo hi : IVec Words 32) (y : Block.Idx) :
    ∀ n, View.AllAt (slabs (F := F) lo hi n) y (block lo hi y)
  | 0 => View.allAt_nil _ _
  | n + 1 => View.allAt_cons_unit _ _ _ _ _ (fun x hx => slab_at lo hi n y x hx) (slabs_allAt lo hi y n)

/-- Store number `k` is among the first `n`, for `k` below `n`. -/
theorem slab_mem (lo hi : IVec Words 32) {k : ℕ} : ∀ n, k < n → slab (F := F) lo hi k ∈ slabs lo hi n
  | 0, h => absurd h (Nat.not_lt_zero _)
  | n + 1, h => by
    rcases Nat.lt_succ_iff_lt_or_eq.mp h with h | rfl
    · exact List.mem_cons_of_mem _ (slab_mem lo hi n h)
    · exact List.mem_cons_self

/-- The 649 stores cover the block. -/
theorem slabs_cover (lo hi : IVec Words 32) (y : Block.Idx) :
    ∃ p ∈ slabs (F := F) lo hi 649, y ∈ p.1.set := by
  have y0 : (y 0).val < 59 := (y 0).isLt
  have y1 : (y 1).val < 11 := (y 1).isLt
  have y2 : (y 2).val < 15 := (y 2).isLt
  have y3 : (y 3).val < 128 := (y 3).isLt
  refine ⟨slab lo hi (59 * (y 1).val + (y 0).val), slab_mem lo hi 649 (by omega), ?_⟩
  refine (Rect.mem_set_unit (inb := slab_inb _)).mpr fun a => ?_
  have m0 : (59 * (y 1).val + (y 0).val) % 59 = (y 0).val := by omega
  have m1 : (59 * (y 1).val + (y 0).val) / 59 % 11 = (y 1).val := by omega
  simp only [m0, m1]
  fin_cases a
  · show (y 0).val ≤ (y 0).val ∧ (y 0).val < (y 0).val + 1; omega
  · show (y 1).val ≤ (y 1).val ∧ (y 1).val < (y 1).val + 1; omega
  · show 0 ≤ (y 2).val ∧ (y 2).val < 0 + 15; omega
  · show 0 ≤ (y 3).val ∧ (y 3).val < 0 + 128; omega

/-- A buffer over which the body's 649 stores were made reads as the block. -/
theorem read_slabs {sig : RefSig} {κ : Kind} {sp : Space} (v : View sig κ sp Block .f32) (f : v.ty.Contents (Elt F))
    (lo hi : IVec Words 32) (L : List (View.Piece (Elt F) Block .f32)) (hL : L = slabs lo hi 649) :
    v.read (Elt F) (v.writes (Elt F) f L) = block lo hi := by
  subst hL
  refine (View.read_writes_eq_canon _ _ _ (slabs_cover lo hi)).trans (funext fun y => ?_)
  exact View.canon_eq_of_allAt _ y _ (slabs_cover lo hi y) (slabs_allAt lo hi y 649)

end Cert.Decode

end
-- ==== Proof.KernelIdealBody.lean ====
/-
  The kernel body of `Cert.KernelIdeal` on one grid point's buffers, and the program's run.

  The body reads its block of codes once, forms the two packed words of every position, and stores 649 slabs; after it
  the output's buffer holds `Decode.block` of those words. From that the pipeline's proof data, the run of the whole
  program and its frame.
-/
module

public import proofs.«01_k».proof.Proof.Gen.KernelIdeal.Frame
public import proofs.«01_k».proof.Proof.Gen.KernelIdeal.Skeleton
public import proofs.«01_k».proof.Proof.Channels
public import Idealize.ShloMosaic.Lib.Claim
public import Idealize.ShloMosaic.Lib.VecWindow
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The low words of a block of codes, as the body computes them: the first five digits, one bit each. -/
def lo (x0 : Vec F S165x128 .i32) : IVec S165x128 32 := k0_pay12 (F := F) (k0_pay7 x0) (k0_pay8 x0) k0_pay9

/-- The high words of a block of codes: the last five digits, one bit each. -/
def hi (x0 : Vec F S165x128 .i32) : IVec S165x128 32 :=
  let q : FVec F S165x128 .f32 := k0_pay7 x0
  let h : FVec F S165x128 .f32 := k0_pay9
  k0_pay22 (F := F) (k0_pay20 (k0_pay13 q h) (k0_pay14 k0_pay4 q h) (k0_pay15 q h) k0_pay16) (k0_pay21 (k0_pay15 q h) k0_pay16)

/-- What the body leaves in the output's buffer, over the block of codes that it reads. -/
def out (x0 : Vec F S165x128 .i32) : Vec F S59x11x15x128 .f32 := Decode.block (lo x0) (hi x0)

set_option maxHeartbeats 10000000 in
/-- The body's triple: on whole buffers, the input's at `x0` and the output's at anything, the body runs to its
    continuation with the input's buffer as it was and the output's at `out x0`. -/
theorem body_triple (c : Dev nD) (E : Set ℕ) (i : grid0.Coords) (arg1 : Memref sig .tc .vmem S165x128 .i32) (harg1 : arg1.IsWhole)
    (arg2 : Memref sig .tc .vmem S59x11x15x128 .f32) (harg2 : arg2.IsWhole) (x0 : Vec F S165x128 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__decode_kernel i arg1 harg1 arg2 harg2) K := by
  unfold owns
  iintro ⟨⟨%f0, %hf0, H0⟩, ⟨%d1, %f1, -, H1⟩, Hk⟩
  subst hf0
  sl_exec_parts!
  sl_step
  iapply Hk
  isplitl [H0]
  · iexists f0; isplitr; · ipureintro; rfl
    iexact H0
  iexists _; isplitr
  swap; · iexact H1
  ipureintro
  rw [← View.readAt_full arg1.view f0 inb_S165x128_S165x128_0_0]
  exact Decode.read_slabs _ _ _ _ _ (by sl_kernel_rfl)

end Cert.KernelIdeal.Body

end
-- ==== Proof.KernelIdealRun.lean ====
/-
  The run of `Cert.KernelIdeal`: the pipeline's proof data over the body's triple, and what the program leaves.

  Every grid point finds its block of codes staged and leaves its block of one-hot channels; nothing is owed between
  points. Each weakly fair run of the program ends with the pipeline's arrays at what these data say, the other buffers
  as the host lines after the region leave them, and every semaphore counter at zero.
-/
module

public import proofs.«01_k».proof.Proof.KernelIdealBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them; after a point the codes' buffer still at its block
    and the output's at the body's result over that block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out (iblk m c 0 t)
  Φ _ := Pipeline.ΦA spec0 c
  q _ := fullShare
  owed _ := 0

/-- The data's arrays are the region's. -/
theorem dats_A (c : Dev nD) (w : Fin cfg0.W) : (dats m 0 c).A w = V m c (Pipeline.arrRef spec0 w) := by
  dsimp only [dats]

/-- After a point the codes' buffer holds its block. -/
theorem dats_in (c : Dev nD) (t : Fin cfg0.N) : (dats m 0 c).after 0 t = iblk m c 0 t := by dsimp only [dats]

/-- After a point the output's buffer holds the body's result. -/
theorem dats_out (c : Dev nD) (t : Fin cfg0.N) : (dats m 0 c).after 1 t = out (iblk m c 0 t) := by dsimp only [dats]

/-- Before a point the codes' buffer holds its block. -/
theorem dats_before (c : Dev nD) (t : Fin cfg0.N) (d) : (dats m 0 c).before 0 t d = iblk m c 0 t :=
  before0_0_of m (dats m 0 c) (dats_A m c 0) (dats_in m c) t d

/-- One point of the grid: from the two staging buffers, the codes' at its block, the body ends with the data's
    contents in both. -/
theorem point_triple (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)) : sProp 𝕄)
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t))) := by
  have hΦ : (dats m 0 c).Φ t.succ = (dats m 0 c).Φ t.castSucc := rfl
  have ho : (dats m 0 c).owesAt () t.succ = (dats m 0 c).owesAt () t.castSucc := rfl
  rw [hΦ, ho, dats_in, dats_out]
  simp only [dats_before]
  iintro ⟨HΦ, Ho, ⟨%d0, H0⟩, ⟨%d1, H1⟩⟩
  iapply (body_triple c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline calls the body on the staging buffers of the point. -/
theorem body_row (t : Fin cfg0.N) : defs₀ (F := F) .tc cfg0.body (cfg0.bodyArgs t (cfg0.slots t)) = bodyAt0 t := by
  unfold defs₀; rw [Defs.onTc_tc]

/-- Every point meets the pipeline's obligation. -/
theorem obligation (c : Dev nD) : BodyObligation (dats (F := F) m 0 c) (defs₀ (F := F)) Variants.none () Set.univ := fun t => by
  rw [bigSep_W0, bigSep_W0, body_row]
  exact triple_restated (point_triple m c t) rfl .rfl fun _ => .rfl

/-- What a final state of the program says: the pipeline's arrays at what the data say, every other buffer as the host
    lines after the region leave it. -/
abbrev Post := Pipeline.FramePost cfgs (dats m) 0 (Pipeline.afterTail₀ cfgs (dats m) 0 (V0 m) [hostOps1])

set_option backward.isDefEq.respectTransparency.types false in
set_option maxHeartbeats 800000 in
/-- The program runs to its end at `Post`, with every semaphore counter at zero. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The program runs to its end at `Post`. -/
theorem run : θ_run defs (onTc (τ := τ) (main (F := F))) (s₀ m ρ) (Post m) :=
  (θ_run defs _ _).mono (fun _ h => h.1) (run_quiet m ρ)

/-- The frame: the program ends with its argument as it was, and every semaphore counter at zero. -/
theorem frame_quiet : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  θ_run_and (frame_of m ρ (dats m) (dats_A m) (run m ρ)) ((θ_run defs _ _).mono (fun _ h => h.2) (run_quiet m ρ))

end Cert.KernelIdeal.Body

end
-- ==== Proof.Digits.lean ====
/-
  The digits of a code, and the arithmetic by which both programs find them.

  A code `v` has ten mixed-radix digits, `v / weight c % base c` (both rounded down, so that a negative code has digits
  too). Digit `c` marks channel `first c + digit`. The kernel peels the digits off by floors of products over the reals: by
  an exact reciprocal where the base is a power of two, and else by the nearest single-precision reciprocal of the
  base, applied half a unit up, whose error is too small to move the floor.
-/
module

public import Idealize.ShloMosaic.Lib.Pointwise
public import proofs.«01_k».proof.Proof.Channels

@[expose] public section

noncomputable section

namespace Cert.Decode

open Idealize.ShloMosaic

/-! ## The digits -/

/-- The ten bases. -/
def base : Fin 10 → ℤ := ![4, 4, 16, 5, 3, 5, 5, 6, 7, 4]
/-- The products of the bases before each. -/
def weight : Fin 10 → ℤ := ![1, 4, 16, 256, 1280, 3840, 19200, 96000, 576000, 4032000]
/-- The sums of the bases before each: the first channel of each digit. -/
def first : Fin 10 → ℤ := ![0, 4, 8, 24, 29, 32, 37, 42, 48, 55]

/-- The channel that digit `c` of the code `v` marks. -/
def channel (v : ℤ) (c : Fin 10) : ℤ := first c + v / weight c % base c

/-- Channel `j` is marked by some digit of the code `v`. -/
def Marked (v : ℤ) (j : ℕ) : Prop := ∃ c : Fin 10, channel v c = j

/-- Ten digits can be tried one by one. -/
instance (v : ℤ) (j : ℕ) : Decidable (Marked v j) := by unfold Marked; infer_instance

/-- The ten channels of a code, one by one. -/
theorem marked_iff (v : ℤ) (j : ℕ) : Marked v j ↔
    (0 + v % 4 = j ∨ 4 + v / 4 % 4 = j ∨ 8 + v / 16 % 16 = j ∨ 24 + v / 256 % 5 = j ∨ 29 + v / 1280 % 3 = j
      ∨ 32 + v / 3840 % 5 = j ∨ 37 + v / 19200 % 5 = j ∨ 42 + v / 96000 % 6 = j ∨ 48 + v / 576000 % 7 = j
      ∨ 55 + v / 4032000 % 4 = j) := by
  unfold Marked
  simp only [Fin.exists_fin_succ, IsEmpty.exists_iff, or_false]
  rw [show channel v 0 = 0 + v % 4 by unfold channel; rw [show weight 0 = 1 from rfl, Int.ediv_one]; rfl]
  rfl

/-- A channel below 32 is marked by one of the first five digits. -/
theorem marked_low (v : ℤ) (j : ℕ) (hj : j < 32) : Marked v j ↔
    (0 + v % 4 = j ∨ 4 + v / 4 % 4 = j ∨ 8 + v / 16 % 16 = j ∨ 24 + v / 256 % 5 = j ∨ 29 + v / 1280 % 3 = j) := by
  have h5 : ¬ 32 + v / 3840 % 5 = j := by omega
  have h6 : ¬ 37 + v / 19200 % 5 = j := by omega
  have h7 : ¬ 42 + v / 96000 % 6 = j := by omega
  have h8 : ¬ 48 + v / 576000 % 7 = j := by omega
  have h9 : ¬ 55 + v / 4032000 % 4 = j := by omega
  simp only [marked_iff, h5, h6, h7, h8, h9, or_false]

/-- A channel from 32 on is marked by one of the last five, at its place among the channels from 32 on. -/
theorem marked_high (v : ℤ) (j : ℕ) (hj : 32 ≤ j) : Marked v j ↔
    (0 + v / 3840 % 5 = (j - 32 : ℕ) ∨ 5 + v / 19200 % 5 = (j - 32 : ℕ) ∨ 10 + v / 96000 % 6 = (j - 32 : ℕ)
      ∨ 16 + v / 576000 % 7 = (j - 32 : ℕ) ∨ 23 + v / 4032000 % 4 = (j - 32 : ℕ)) := by
  have h0 : ¬ 0 + v % 4 = j := by omega
  have h1 : ¬ 4 + v / 4 % 4 = j := by omega
  have h2 : ¬ 8 + v / 16 % 16 = j := by omega
  have h3 : ¬ 24 + v / 256 % 5 = j := by omega
  have h4 : ¬ 29 + v / 1280 % 3 = j := by omega
  have move : ∀ (a b r : ℤ), a = b + 32 → (a + r = j ↔ b + r = (j - 32 : ℕ)) := by intro a b r h; omega
  simp only [marked_iff, h0, h1, h2, h3, h4, false_or, move 32 0 _ rfl, move 37 5 _ rfl, move 42 10 _ rfl, move 48 16 _ rfl, move 55 23 _ rfl]

/-! ## Floors over the reals -/

/-- Half a unit above an integer, times a number near enough to `1 / f`, has the integer's quotient by `f` as its floor. -/
theorem floor_near (q f : ℤ) (w e : ℝ) (hf : 0 < f) (hw : (f : ℝ) * w = 1 + e) (he : |((q : ℝ) + 1 / 2) * e| < 1 / 2) :
    ⌊((q : ℝ) + 1 / 2) * w⌋ = q / f := by
  have hf' : (0 : ℝ) < f := by exact_mod_cast hf
  have h0 : (0 : ℝ) ≤ ((q % f : ℤ) : ℝ) := by exact_mod_cast Int.emod_nonneg q hf.ne'
  have h1 : ((q % f : ℤ) : ℝ) + 1 ≤ f := by exact_mod_cast Int.emod_lt_of_pos q hf
  have hq : (q : ℝ) = f * ((q / f : ℤ) : ℝ) + ((q % f : ℤ) : ℝ) := by exact_mod_cast (Int.mul_ediv_add_emod q f).symm
  have hz : (f : ℝ) * (((q : ℝ) + 1 / 2) * w) = f * ((q / f : ℤ) : ℝ) + ((q % f : ℤ) : ℝ) + 1 / 2 + ((q : ℝ) + 1 / 2) * e := by
    calc (f : ℝ) * (((q : ℝ) + 1 / 2) * w) = ((q : ℝ) + 1 / 2) * (f * w) := by ring
      _ = (q : ℝ) + 1 / 2 + ((q : ℝ) + 1 / 2) * e := by rw [hw]; ring
      _ = _ := by rw [← hq]
  obtain ⟨ha, hb⟩ := abs_lt.mp he
  rw [Int.floor_eq_iff]
  constructor
  · refine le_of_mul_le_mul_left ?_ hf'
    linarith
  · refine lt_of_mul_lt_mul_left ?_ hf'.le
    linarith

/-- An integer times exactly `1 / f` has its quotient by `f` as its floor. -/
theorem floor_exact (q f : ℤ) (w : ℝ) (hf : 0 < f) (hw : (f : ℝ) * w = 1) : ⌊(q : ℝ) * w⌋ = q / f := by
  have hf' : (0 : ℝ) < f := by exact_mod_cast hf
  have h0 : (0 : ℝ) ≤ ((q % f : ℤ) : ℝ) := by exact_mod_cast Int.emod_nonneg q hf.ne'
  have h1 : ((q % f : ℤ) : ℝ) + 1 ≤ f := by exact_mod_cast Int.emod_lt_of_pos q hf
  have hq : (q : ℝ) = f * ((q / f : ℤ) : ℝ) + ((q % f : ℤ) : ℝ) := by exact_mod_cast (Int.mul_ediv_add_emod q f).symm
  have hz : (f : ℝ) * ((q : ℝ) * w) = q := by
    calc (f : ℝ) * ((q : ℝ) * w) = (q : ℝ) * (f * w) := by ring
      _ = q := by rw [hw, mul_one]
  rw [Int.floor_eq_iff]
  constructor
  · refine le_of_mul_le_mul_left ?_ hf'
    linarith
  · refine lt_of_mul_lt_mul_left ?_ hf'.le
    linarith

/-! ## The same at the ideal instance -/

/-- An integer as an extended real. -/
def num (q : ℤ) : EReal := ((q : ℝ) : EReal)

/-- The constant that the kernel adds before an inexact reciprocal. -/
theorem half_val : Ideal.ofBits .f32 0x3F000000#32 = ((1 / 2 : ℝ) : EReal) := by
  simp [Ideal.ofBits, Ideal.ieee, -EReal.coe_mul]; norm_num

/-- One step of the kernel by an exact reciprocal. -/
theorem step_exact (q f : ℤ) (b : BitVec 32) (w : ℝ) (hb : Ideal.ofBits .f32 b = (w : EReal)) (hf : 0 < f) (hw : (f : ℝ) * w = 1) :
    Ideal.liftRound Int.floor (num q * Ideal.ofBits .f32 b) = num (q / f) := by
  rw [hb, num, ← EReal.coe_mul, Ideal.liftRound_coe, floor_exact q f w hf hw, num]

/-- One step of the kernel by an inexact reciprocal, whose error `e` is at most 3 / 2 ^ 26, at an integer of at most 24 bits. -/
theorem step_near (q f : ℤ) (b : BitVec 32) (w e : ℝ) (hb : Ideal.ofBits .f32 b = (w : EReal)) (hf : 0 < f) (hw : (f : ℝ) * w = 1 + e)
    (he : |e| ≤ 3 / 2 ^ 26) (hq : -8388608 ≤ q ∧ q ≤ 8388608) :
    Ideal.liftRound Int.floor ((num q + Ideal.ofBits .f32 0x3F000000#32) * Ideal.ofBits .f32 b) = num (q / f) := by
  rw [hb, half_val, num, ← EReal.coe_add, ← EReal.coe_mul, Ideal.liftRound_coe, floor_near q f w e hf hw, num]
  have h1 : (-8388608 : ℝ) ≤ q := by exact_mod_cast hq.1
  have h2 : (q : ℝ) ≤ 8388608 := by exact_mod_cast hq.2
  have h3 : |(q : ℝ) + 1 / 2| ≤ 8388608 + 1 / 2 := abs_le.mpr ⟨by linarith, by linarith⟩
  rw [abs_mul]
  calc |(q : ℝ) + 1 / 2| * |e| ≤ (8388608 + 1 / 2) * (3 / 2 ^ 26) := mul_le_mul h3 he (abs_nonneg e) (by norm_num)
    _ < 1 / 2 := by norm_num

/-- The digit that a step leaves, as a 32-bit word: the integer less `f` times its quotient is its remainder. -/
theorem digit_word (q f : ℤ) (b : BitVec 32) (hb : Ideal.ofBits .f32 b = num f) (hf : 0 < f) (hf' : f ≤ 16) :
    Ideal.fptosi 32 (num q - Ideal.ofBits .f32 b * num (q / f)) = BitVec.ofInt 32 (q % f) := by
  have h0 : 0 ≤ q % f := Int.emod_nonneg q hf.ne'
  have h1 : q % f < f := Int.emod_lt_of_pos q hf
  have hr : q - f * (q / f) = q % f := (Int.emod_def q f).symm
  have hx : num q - Ideal.ofBits .f32 b * num (q / f) = ((((q % f : ℤ) : ℝ)) : EReal) := by
    rw [hb, num, num, num, ← EReal.coe_mul, ← EReal.coe_sub, ← hr]
    push_cast
    rfl
  rw [hx, Ideal.fptosi, Ideal.toIntClamped_coe, if_pos (by exact_mod_cast h0), Int.floor_intCast]
  congr 1
  norm_num
  omega

/-! ## The bits of the packed words -/

/-- The word with bit `r + a` set, as the kernel forms it from the digit `r` and the offset `a`. -/
theorem mark_bit (r : ℤ) (a j : ℕ) (h0 : 0 ≤ r) (h1 : r + a < 32) (hj : j < 32) :
    (IntOp.shli .vector 1#32 (IntOp.addi (BitVec.ofInt 32 r) (BitVec.ofNat 32 a))).getLsbD j = decide (a + r = j) := by
  obtain ⟨n, rfl⟩ := Int.eq_ofNat_of_zero_le h0
  have hn : n + a < 32 := by exact_mod_cast h1
  have hs : IntOp.addi (BitVec.ofInt 32 (n : ℤ)) (BitVec.ofNat 32 a) = BitVec.ofNat 32 (n + a) := by
    unfold IntOp.addi
    rw [BitVec.ofInt_natCast, BitVec.ofNat_add]
  rw [hs]
  have ht : (BitVec.ofNat 32 (n + a)).toNat = n + a := by rw [BitVec.toNat_ofNat]; omega
  unfold IntOp.shli
  rw [if_pos (by rw [ht]; exact hn), BitVec.shiftLeft_eq', ht]
  simp only [BitVec.getLsbD_shiftLeft, hj, decide_true, Bool.true_and, BitVec.getLsbD_one]
  by_cases h : n + a = j
  · have : (a : ℤ) + (n : ℤ) = (j : ℤ) := by omega
    simp [h, this]
  · have h' : ¬ ((a : ℤ) + (n : ℤ) = (j : ℤ)) := by omega
    simp only [h', decide_false]
    by_cases hlt : j < n + a
    · simp [hlt]
    · have : j - (n + a) ≠ 0 := by omega
      simp [this]

/-- A channel's stored value at the ideal instance: 1 where its bit of the word is set, 0 elsewhere. -/
theorem bitOf_ideal (w : BitVec 32) (j : ℕ) : bitOf (F := Ideal) w j = if w.getLsbD (j % 32) then (1 : EReal) else 0 := by
  have hj : j % 32 < 32 := Nat.mod_lt _ (by decide)
  have ht : (BitVec.ofNat 32 (j % 32)).toNat = j % 32 := by rw [BitVec.toNat_ofNat]; omega
  have hw : IntOp.andi (IntOp.shrsi .vector w (BitVec.ofNat 32 (j % 32))) 1#32 = if w.getLsbD (j % 32) then 1#32 else 0#32 := by
    unfold IntOp.andi IntOp.shrsi
    rw [if_pos (by rw [ht]; exact hj)]
    apply BitVec.eq_of_getLsbD_eq
    intro i hi
    by_cases h0 : i = 0
    · subst h0
      rw [BitVec.getLsbD_and, BitVec.sshiftRight_eq', ht]
      have hs : (w.sshiftRight (j % 32)).getLsbD 0 = w.getLsbD (j % 32) := by
        rw [BitVec.getLsbD_sshiftRight, Nat.add_zero, if_pos hj]; rfl
      rw [hs]
      cases w.getLsbD (j % 32) <;> simp
    · cases w.getLsbD (j % 32) <;> simp [BitVec.getLsbD_one, h0]
  unfold bitOf
  rw [hw]
  by_cases hb : w.getLsbD (j % 32)
  · rw [if_pos hb, if_pos hb]; show (((1#32 : BitVec 32).toInt : ℝ) : EReal) = 1; norm_num
  · rw [if_neg hb, if_neg hb]; show (((0#32 : BitVec 32).toInt : ℝ) : EReal) = 0; norm_num

/-! ## The answer -/

/-- The position of row `r`, column `s` among the 165 codes of a batch. -/
def position (r : Fin 11) (s : Fin 15) : Fin 165 := ⟨15 * r.val + s.val, by omega⟩

/-- What both programs compute of the codes `x`: at (batch, channel, row, column) 1 where the code there marks the
    channel, 0 elsewhere. -/
def answer (x : (⟨2, ![4096, 165]⟩ : Shape).Idx → BitVec 32) : (⟨4, ![4096, 59, 11, 15]⟩ : Shape).Idx → EReal := fun i =>
  if Marked (x (ValueIdx.ix2 (i 0) (position (i 2) (i 3)))).toInt (i 1).val then 1 else 0

end Cert.Decode

end
-- ==== Proof.KernelIdealWords.lean ====
/-
  The kernel's packed words at the ideal instance: which bits of them are set.

  At every position the body's floats are the code's successive quotients, as integers, and the digits between them its
  remainders; bit `j` of the low word is set exactly where digit 0 … 4 marks channel `j`, and bit `j` of the high word where
  digit 5 … 9 marks channel `32 + j`.
-/
module

public import proofs.«01_k».proof.Proof.KernelIdealBody
public import proofs.«01_k».proof.Proof.Digits

@[expose] public section

set_option maxRecDepth 16384

noncomputable section

namespace Cert.KernelIdeal.Body

open Cert.KernelIdeal Cert.KernelIdeal.Gen
open Idealize.ShloMosaic Idealize.ShloMosaic.TcCoe
open Cert.Decode

/-- A quarter is exact. -/
theorem quarter_val : Ideal.ofBits .f32 0x3E800000#32 = ((1 / 4 : ℝ) : EReal) := by
  simp [Ideal.ofBits, Ideal.ieee, -EReal.coe_mul]; norm_num
/-- A sixteenth is exact. -/
theorem sixteenth_val : Ideal.ofBits .f32 0x3D800000#32 = ((1 / 16 : ℝ) : EReal) := by
  simp [Ideal.ofBits, Ideal.ieee, -EReal.coe_mul]; norm_num
/-- The nearest single-precision number to a fifth. -/
theorem fifth_val : Ideal.ofBits .f32 0x3E4CCCCD#32 = ((13421773 / 67108864 : ℝ) : EReal) := by
  simp [Ideal.ofBits, Ideal.ieee, -EReal.coe_mul]; norm_num
/-- The nearest single-precision number to a third. -/
theorem third_val : Ideal.ofBits .f32 0x3EAAAAAB#32 = ((11184811 / 33554432 : ℝ) : EReal) := by
  simp [Ideal.ofBits, Ideal.ieee, -EReal.coe_mul]; norm_num
/-- The nearest single-precision number to a sixth. -/
theorem sixth_val : Ideal.ofBits .f32 0x3E2AAAAB#32 = ((11184811 / 67108864 : ℝ) : EReal) := by
  simp [Ideal.ofBits, Ideal.ieee, -EReal.coe_mul]; norm_num
/-- The nearest single-precision number to a seventh. -/
theorem seventh_val : Ideal.ofBits .f32 0x3E124925#32 = ((9586981 / 67108864 : ℝ) : EReal) := by
  simp [Ideal.ofBits, Ideal.ieee, -EReal.coe_mul]; norm_num
/-- The base 3. -/
theorem three_val : Ideal.ofBits .f32 0x40400000#32 = num 3 := by
  simp [Ideal.ofBits, Ideal.ieee, -EReal.coe_mul, num]; norm_num
/-- The base 4. -/
theorem four_val : Ideal.ofBits .f32 0x40800000#32 = num 4 := by
  simp [Ideal.ofBits, Ideal.ieee, -EReal.coe_mul, num]; norm_num
/-- The base 5. -/
theorem five_val : Ideal.ofBits .f32 0x40A00000#32 = num 5 := by
  simp [Ideal.ofBits, Ideal.ieee, -EReal.coe_mul, num]; norm_num
/-- The base 6. -/
theorem six_val : Ideal.ofBits .f32 0x40C00000#32 = num 6 := by
  simp [Ideal.ofBits, Ideal.ieee, -EReal.coe_mul, num]; norm_num
/-- The base 7. -/
theorem seven_val : Ideal.ofBits .f32 0x40E00000#32 = num 7 := by
  simp [Ideal.ofBits, Ideal.ieee, -EReal.coe_mul, num]; norm_num
/-- The base 16. -/
theorem sixteen_val : Ideal.ofBits .f32 0x41800000#32 = num 16 := by
  simp [Ideal.ofBits, Ideal.ieee, -EReal.coe_mul, num]; norm_num

variable (x : Vec Ideal S165x128 .i32) (j : S165x128.Idx)

/-! ## The successive quotients -/

/-- Before the first step the body holds the code itself. -/
theorem q0 : k0_pay3 (F := Ideal) x j = num (x j).toInt := by pointwise [k0_pay3]; rfl

/-- After step 1 the body holds the code over 4, rounded down. -/
theorem q1 : k0_pay5 (F := Ideal) x j = num ((x j).toInt / 4) := by
  pointwise [k0_pay5]
  rw [q0]
  exact step_exact _ 4 _ _ quarter_val (by norm_num) (by norm_num)

/-- After step 2 the body holds the code over 16, rounded down. -/
theorem q2 : k0_pay6 (F := Ideal) x j = num ((x j).toInt / 16) := by
  pointwise [k0_pay6]
  rw [q1]
  exact (step_exact _ 4 _ _ quarter_val (by norm_num) (by norm_num)).trans (congrArg num (by omega))

/-- After step 3 the body holds the code over 256, rounded down. -/
theorem q3 : k0_pay7 (F := Ideal) x j = num ((x j).toInt / 256) := by
  pointwise [k0_pay7]
  rw [q2]
  exact (step_exact _ 16 _ _ sixteenth_val (by norm_num) (by norm_num)).trans (congrArg num (by omega))

/-- A quotient by 256 or more has at most 24 bits. -/
theorem small (n : ℤ) (hn : 256 ≤ n) : -8388608 ≤ (x j).toInt / n ∧ (x j).toInt / n ≤ 8388608 := by
  have h1 : (x j).toInt < 2 ^ 31 := BitVec.toInt_lt
  have h2 : -2 ^ 31 ≤ (x j).toInt := BitVec.le_toInt _
  constructor
  · exact (Int.le_ediv_iff_mul_le (by omega)).mpr (by omega)
  · exact Int.ediv_le_of_le_mul (by omega) (by omega)

/-- After step 4 the body holds the code over 1280, rounded down. -/
theorem q4 : k0_pay10 (F := Ideal) (k0_pay7 x) k0_pay9 j = num ((x j).toInt / 1280) := by
  pointwise [k0_pay10, k0_pay9]
  rw [q3]
  exact (step_near _ 5 _ _ (1 / 2 ^ 26) fifth_val (by norm_num) (by norm_num) (by norm_num [abs_of_pos]) (small x j 256 (by norm_num))).trans
    (congrArg num (by omega))

/-- After step 5 the body holds the code over 3840, rounded down. -/
theorem q5 : k0_pay11 (F := Ideal) (k0_pay7 x) k0_pay9 j = num ((x j).toInt / 3840) := by
  pointwise [k0_pay11]
  rw [q4]
  exact (step_near _ 3 _ _ (1 / 2 ^ 25) third_val (by norm_num) (by norm_num) (by norm_num [abs_of_pos]) (small x j 1280 (by norm_num))).trans
    (congrArg num (by omega))

/-- After step 6 the body holds the code over 19200, rounded down. -/
theorem q6 : k0_pay13 (F := Ideal) (k0_pay7 x) k0_pay9 j = num ((x j).toInt / 19200) := by
  pointwise [k0_pay13]
  rw [q5]
  exact (step_near _ 5 _ _ (1 / 2 ^ 26) fifth_val (by norm_num) (by norm_num) (by norm_num [abs_of_pos]) (small x j 3840 (by norm_num))).trans
    (congrArg num (by omega))

/-- After step 7 the body holds the code over 96000, rounded down. -/
theorem q7 : k0_pay17 (F := Ideal) (k0_pay15 (k0_pay7 x) k0_pay9) k0_pay16 j = num ((x j).toInt / 96000) := by
  pointwise [k0_pay17, k0_pay15, k0_pay16]
  rw [q6]
  exact (step_near _ 5 _ _ (1 / 2 ^ 26) fifth_val (by norm_num) (by norm_num) (by norm_num [abs_of_pos]) (small x j 19200 (by norm_num))).trans
    (congrArg num (by omega))

/-- After step 8 the body holds the code over 576000, rounded down. -/
theorem q8 : k0_pay18 (F := Ideal) (k0_pay15 (k0_pay7 x) k0_pay9) k0_pay16 j = num ((x j).toInt / 576000) := by
  pointwise [k0_pay18]
  rw [q7]
  exact (step_near _ 6 _ _ (1 / 2 ^ 25) sixth_val (by norm_num) (by norm_num) (by norm_num [abs_of_pos]) (small x j 96000 (by norm_num))).trans
    (congrArg num (by omega))

/-- After step 9 the body holds the code over 4032000, rounded down. -/
theorem q9 : k0_pay19 (F := Ideal) (k0_pay15 (k0_pay7 x) k0_pay9) k0_pay16 j = num ((x j).toInt / 4032000) := by
  pointwise [k0_pay19]
  rw [q8]
  exact (step_near _ 7 _ _ (3 / 2 ^ 26) seventh_val (by norm_num) (by norm_num) (by norm_num [abs_of_pos]) (small x j 576000 (by norm_num))).trans
    (congrArg num (by omega))

/-! ## The words' bits -/

/-- The bit that a digit sets in its word, from the two quotients around it: the one of its channel. -/
theorem digit_mark (q q' f : ℤ) (b : BitVec 32) (a i : ℕ) (hb : Ideal.ofBits .f32 b = num f) (hf : 0 < f) (hf' : f ≤ 16)
    (hq : q' = q / f) (ha : f + a ≤ 32) (hi : i < 32) :
    (IntOp.shli .vector 1#32 (IntOp.addi (FloatOps.fptosi (F := Ideal) (φ := .f32) 32 (num q - Ideal.ofBits .f32 b * num q')) (BitVec.ofNat 32 a))).getLsbD i
      = decide (a + q % f = i) := by
  subst hq
  have h1 : q % f < f := Int.emod_lt_of_pos q hf
  rw [show FloatOps.fptosi (F := Ideal) (φ := .f32) 32 (num q - Ideal.ofBits .f32 b * num (q / f)) = BitVec.ofInt 32 (q % f) from
    digit_word q f b hb hf hf']
  exact mark_bit _ a i (Int.emod_nonneg q hf.ne') (by omega) hi

/-- Bit `i` of the low word: set where channel `i` is marked. -/
theorem lo_bit (i : ℕ) (hi : i < 32) : (lo (F := Ideal) x j).getLsbD i = decide (Marked (x j).toInt i) := by
  unfold lo
  pointwise [k0_pay12, k0_pay8]
  rw [q0, q1, q2, q3, q4, q5]
  simp only [IntOp.ori, BitVec.getLsbD_or]
  rw [digit_mark _ _ 4 _ 0 i four_val (by norm_num) (by norm_num) rfl (by norm_num) hi,
    digit_mark _ _ 4 _ 4 i four_val (by norm_num) (by norm_num) (by omega) (by norm_num) hi,
    digit_mark _ _ 16 _ 8 i sixteen_val (by norm_num) (by norm_num) (by omega) (by norm_num) hi,
    digit_mark _ _ 5 _ 24 i five_val (by norm_num) (by norm_num) (by omega) (by norm_num) hi,
    digit_mark _ _ 3 _ 29 i three_val (by norm_num) (by norm_num) (by omega) (by norm_num) hi, Bool.eq_iff_iff]
  simp only [Bool.or_eq_true, decide_eq_true_eq, BitVec.getLsbD_zero, Bool.false_eq_true, false_or, marked_low _ i hi, or_assoc, Nat.cast_ofNat,
    Nat.cast_zero]

/-- Bit `i` of the high word: set where channel `32 + i` is marked. -/
theorem hi_bit (i : ℕ) (hi' : i < 32) : (hi (F := Ideal) x j).getLsbD i = decide (Marked (x j).toInt (32 + i)) := by
  unfold hi
  pointwise [k0_pay22, k0_pay20, k0_pay21, k0_pay14, k0_pay4]
  rw [q5, q6, q7, q8, q9, step_exact _ 4 _ _ quarter_val (by norm_num) (by norm_num)]
  simp only [IntOp.ori, BitVec.getLsbD_or]
  rw [digit_mark _ _ 5 _ 0 i five_val (by norm_num) (by norm_num) (by omega) (by norm_num) hi',
    digit_mark _ _ 5 _ 5 i five_val (by norm_num) (by norm_num) (by omega) (by norm_num) hi',
    digit_mark _ _ 6 _ 10 i six_val (by norm_num) (by norm_num) (by omega) (by norm_num) hi',
    digit_mark _ _ 7 _ 16 i seven_val (by norm_num) (by norm_num) (by omega) (by norm_num) hi',
    digit_mark _ _ 4 _ 23 i four_val (by norm_num) (by norm_num) rfl (by norm_num) hi', Bool.eq_iff_iff]
  simp only [Bool.or_eq_true, decide_eq_true_eq, BitVec.getLsbD_zero, Bool.false_eq_true, false_or, marked_high _ (32 + i) (by omega), or_assoc,
    Nat.add_sub_cancel_left, Nat.cast_ofNat, Nat.cast_zero]

/-- Channels below 32 are read in the low words. -/
theorem wordsOf_low {w : Type} (a b : w) {n : ℕ} (h : n < 32) :
    Bool.rec (motive := fun _ => w) b a (Nat.blt n 32) = a := by
  rw [show Nat.blt n 32 = true from Nat.blt_eq.mpr h]

/-- Channels from 32 on are read in the high words. -/
theorem wordsOf_high {w : Type} (a b : w) {n : ℕ} (h : ¬ n < 32) :
    Bool.rec (motive := fun _ => w) b a (Nat.blt n 32) = b := by
  rw [show Nat.blt n 32 = false from Bool.eq_false_iff.mpr fun e => h (Nat.blt_eq.mp e)]

/-- The body's block at the ideal instance: at (channel, row, column, batch) 1 where the code at position 15 · row + column
    of that batch marks the channel, 0 elsewhere. -/
theorem out_apply (y : S59x11x15x128.Idx) (k : Fin 165) (hk : k.val = 15 * (y 1).val + (y 2).val) :
    out (F := Ideal) x y = if Marked (x (ix2 k (y 3))).toInt (y 0).val then (1 : EReal) else 0 := by
  have h0 : (y 0).val < 59 := (y 0).isLt
  obtain ⟨k, hk'⟩ := k
  subst hk
  unfold out block
  rw [bitOf_ideal]
  by_cases h : (y 0).val < 32
  · rw [show wordsOf (lo x) (hi x) (y 0).val = lo x from wordsOf_low _ _ h, lo_bit x _ _ (Nat.mod_lt _ (by decide)), Nat.mod_eq_of_lt h]
    simp only [decide_eq_true_eq]
    rfl
  · rw [show wordsOf (lo x) (hi x) (y 0).val = hi x from wordsOf_high _ _ h, hi_bit x _ _ (Nat.mod_lt _ (by decide)), show 32 + (y 0).val % 32 = (y 0).val by omega]
    simp only [decide_eq_true_eq]
    rfl

end Cert.KernelIdeal.Body

end
-- ==== Proof.KernelIdealValue.lean ====
/-
  The idealized kernel's result: the answer of its codes.

  The region finds the codes transposed, so that its block at a point holds 128 consecutive batches; the blocks it leaves
  cover the output, batches last; and the host line after it brings the batches to the front.
-/
module

public import proofs.«01_k».proof.Proof.KernelIdealRun
public import proofs.«01_k».proof.Proof.KernelIdealWords
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem
open Idealize.ShloMosaic.Pipeline (Dat)
open Cert.Decode

variable (m : (ℓ : Loc nD τ sig) → Buf (Elt Ideal) ℓ) (ρ : Dev nD → PrngReg)

/-- The codes. -/
abbrev codes (c : Dev nD) : S4096x165.Idx → BitVec 32 := m ((c.tc : Thread nD τ).loc main_arg0)

/-- The region finds the codes transposed. -/
theorem found (c : Dev nD) :
    V m c main_call0_v0 = transpose S165x4096 [1, 0] (codes m c) transposes_S4096x165_S165x4096_1_0 := by
  unfold V V0
  after_results_simp
  rfl

/-- Read at (position, batch). -/
theorem found_apply (c : Dev nD) (i : S165x4096.Idx) : V m c main_call0_v0 i = codes m c (ValueIdx.ix2 (i 1) (i 0)) := by
  rw [found]
  exact transpose_apply _ _ _ _ _ fun b => match b with | ⟨0, _⟩ => rfl | ⟨1, _⟩ => rfl

/-- The codes' block at a point: the point's number on the batches, zero elsewhere. -/
theorem index_in : ∀ t : Fin cfg0.N, win0_0.index t = ![0, t.val] := (by decide +kernel : ∀ t : Fin grid0.N, _)
/-- The result's block at a point: likewise. -/
theorem index_out : ∀ t : Fin cfg0.N, win0_1.index t = ![0, 0, 0, t.val] := (by decide +kernel : ∀ t : Fin grid0.N, _)

/-- The codes' block at a point: position `k` of the point's batch `l`. -/
theorem block_apply (c : Dev nD) (t : Fin cfg0.N) (k : Fin 165) (l : Fin 128) (b : Fin 4096) (hb : b.val = t.val * 128 + l.val) :
    iblk m c 0 t (ix2 k l) = codes m c (ValueIdx.ix2 b k) := by
  blk_simp [iblk]
  rw [found_apply]
  have e1 : ((win0_0.blk t).view.emb (ix2 k l)) 1 = b := Fin.ext (by
    blk_simp [index_in]
    exact hb.symm)
  have e0 : ((win0_0.blk t).view.emb (ix2 k l)) 0 = k := Fin.ext (by
    blk_simp [index_in])
  exact congrArg (codes m c) (congrArg₂ ValueIdx.ix2 e1 e0)

/-- The output array after the region: the answer, batches last. -/
theorem left (c : Dev nD) :
    (dats m 0 c).arrAt 1 cfg0.N = fun i : S59x11x15x4096.Idx => answer (codes m c) (ValueIdx.ix4 (i 3) (i 0) (i 1) (i 2)) := by
  refine (dats m 0 c).arrAt_eq_of_covers 1 _ (by decide +kernel) fun t hf y => ?_
  blk_simp
  rw [dats_out]
  have e0 : (((win0_1.blk t).view.emb y) 0).val = (y 0).val := by blk_simp [index_out]
  have e1 : (((win0_1.blk t).view.emb y) 1).val = (y 1).val := by blk_simp [index_out]
  have e2 : (((win0_1.blk t).view.emb y) 2).val = (y 2).val := by blk_simp [index_out]
  have e3 : (((win0_1.blk t).view.emb y) 3).val = t.val * 128 + (y 3).val := by blk_simp [index_out]
  refine (out_apply _ y (position (((win0_1.blk t).view.emb y) 1) (((win0_1.blk t).view.emb y) 2)) (by
    show 15 * _ + _ = _
    rw [e1, e2])).trans ?_
  show (if Marked (iblk m c 0 t (ix2 (position (((win0_1.blk t).view.emb y) 1) (((win0_1.blk t).view.emb y) 2)) (y 3))).toInt (y 0).val
    then (1 : EReal) else 0) = _
  rw [block_apply m c t _ _ _ e3, ← e0]
  rfl

/-- The program's result: the answer of its codes. -/
theorem result (c : Dev nD) : Pipeline.afterTail₀ cfgs (dats m) 0 (V0 m) [hostOps1] c main_v0 = answer (codes m c) := by
  unfold Pipeline.afterTail₀
  have h : Pipeline.withArrays (cfgs 0).spec c (V0 m c) (fun w => (dats m 0 c).arrAt w (cfgs 0).N) (Proc.devRef .tc main_call0_v1)
      = (dats m 0 c).arrAt 1 cfg0.N :=
    Pipeline.withArrays_arr spec0 (by decide) c (V0 m c) (fun w => (dats m 0 c).arrAt w cfg0.N) 1
  generalize Pipeline.withArrays (cfgs 0).spec c (V0 m c) (fun w => (dats m 0 c).arrAt w (cfgs 0).N) = W at h ⊢
  have e : StableHlo.after [hostOps1].flatten W (Proc.devRef .tc main_v0)
      = transpose S4096x59x11x15 [3, 0, 1, 2] (W (Proc.devRef .tc main_call0_v1)) transposes_S59x11x15x4096_S4096x59x11x15_3_0_1_2 := by
    rw [List.flatten_cons, List.flatten_nil, List.append_nil]
    after_results_simp
    rfl
  refine funext fun i => ?_
  rw [e, h, left]
  exact (transpose_apply _ _ _ i (ValueIdx.ix4 (i 1) (i 2) (i 3) (i 0))
    fun b => match b with | ⟨0, _⟩ => rfl | ⟨1, _⟩ => rfl | ⟨2, _⟩ => rfl | ⟨3, _⟩ => rfl).trans rfl

/-- The program runs to its end with the answer in its result and its argument as it was. -/
theorem value : θ_run defs (onTc (τ := τ) (main (F := Ideal))) ⟨m, fun _ => 0, ρ⟩ (fun r => ∀ c : Dev nD,
    r.2.mem ((c.tc : Thread nD τ).loc main_v0) = answer (codes m c)
      ∧ r.2.mem ((c.tc : Thread nD τ).loc main_arg0) = m ((c.tc : Thread nD τ).loc main_arg0)) :=
  (θ_run defs _ _).mono (fun _ h c =>
    ⟨(h.1.rest_eq c main_v0 (Pipeline.mem_restRefs_of main_v0 (by decide) (by decide))).trans (result m c), h.2 c⟩)
    (θ_run_and (run m ρ) (frame_of m ρ (dats m) (dats_A m) (run m ρ)))

end Cert.KernelIdeal.Body

end
-- ==== Proof.HostDigits.lean ====
/-
  The reference's integer arithmetic on one word: division and remainder rounded down.

  The host's division rounds toward zero and its remainder takes the dividend's sign. The reference corrects both, where
  the signs of dividend and divisor differ and the division leaves a remainder. With a positive divisor the corrected
  words are the quotient and the remainder rounded down.
-/
module

public import Idealize.ShloMosaic.Lib.WordArith
public import Idealize.ShloMosaic.Lib.WordCmp
public import proofs.«01_k».proof.Proof.Digits

@[expose] public section

noncomputable section

namespace Cert.Decode

open Idealize.ShloMosaic

/-- The sign of a word. -/
abbrev sign (x : BitVec 32) : BitVec 32 := if x = 0 then 0 else if x.msb then -1 else 1

/-- The quotient, less one where the signs differ and a remainder is left. -/
abbrev quotient (x d : BitVec 32) : BitVec 32 :=
  Scalar.select (IntOp.andi (IntOp.cmpi .ne (sign x) (sign d)) (IntOp.cmpi .ne (IntOp.remsi .host x d) 0#32))
    (IntOp.subi (IntOp.divsi .host x d) 1#32) (IntOp.divsi .host x d)

/-- The remainder, plus the divisor where its sign is not the divisor's and it is not zero. -/
abbrev remainder (x d : BitVec 32) : BitVec 32 :=
  Scalar.select (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

/-- A positive divisor is in no corner of the division. -/
theorem no_corner (x d : BitVec 32) (hd : 0 < d.toInt) : ¬ IntOp.SDivCorner x d := by
  rintro (rfl | ⟨_, rfl⟩) <;> revert hd <;> decide

/-- The host's quotient by a positive divisor. -/
theorem toInt_divsi (x d : BitVec 32) (hd : 0 < d.toInt) : (IntOp.divsi .host x d).toInt = x.toInt.tdiv d.toInt := by
  unfold IntOp.divsi
  rw [if_neg (no_corner x d hd)]
  exact BitVec.toInt_sdiv_of_ne_or_ne x d (Or.inr (by rintro rfl; revert hd; decide))

/-- The host's remainder by a positive divisor. -/
theorem toInt_remsi (x d : BitVec 32) (hd : 0 < d.toInt) : (IntOp.remsi .host x d).toInt = x.toInt.tmod d.toInt := by
  unfold IntOp.remsi
  rw [if_neg (no_corner x d hd)]
  exact BitVec.toInt_srem x d

/-- A word is zero where its value is. -/
theorem eq_zero_iff (x : BitVec 32) : x = 0#32 ↔ x.toInt = 0 :=
  ⟨fun h => h ▸ rfl, fun h => BitVec.eq_of_toInt_eq (h.trans rfl)⟩

/-- The sign of a word, by its value. -/
theorem sign_eq (x : BitVec 32) : sign x = if x.toInt = 0 then 0 else if x.toInt < 0 then -1 else 1 := by
  have h1 := eq_zero_iff x
  have h2 : x.msb = true ↔ x.toInt < 0 := by rw [BitVec.msb_eq_toInt, decide_eq_true_eq]
  unfold sign
  simp only [show (0 : BitVec 32) = 0#32 from rfl, h1, h2]

/-- Quotient and remainder toward zero, and the same rounded down, by a positive divisor. -/
theorem rounding (a b : ℤ) (hb : 0 < b) :
    (0 ≤ a.tmod b ∧ a / b = a.tdiv b ∧ a % b = a.tmod b ∧ (a.tmod b = 0 ∨ 0 < a))
      ∨ (a.tmod b < 0 ∧ a < 0 ∧ a / b = a.tdiv b - 1 ∧ a % b = a.tmod b + b) := by
  have e := Int.mul_tdiv_add_tmod a b
  have l := Int.tmod_lt_of_pos a hb
  have g := Int.lt_tmod_of_pos a hb
  by_cases h : 0 ≤ a.tmod b
  · obtain ⟨h1, h2⟩ := (Int.ediv_emod_unique hb).mpr (⟨by rw [add_comm]; exact e, h, l⟩ : a.tmod b + b * a.tdiv b = a ∧ 0 ≤ a.tmod b ∧ a.tmod b < b)
    refine Or.inl ⟨h, h1, h2, ?_⟩
    by_contra hn
    rw [not_or] at hn
    have : 0 ≤ (-a).tmod b := Int.tmod_nonneg b (by omega)
    rw [Int.neg_tmod] at this
    omega
  · obtain ⟨h1, h2⟩ := (Int.ediv_emod_unique hb).mpr (⟨by rw [mul_sub, mul_one]; omega, by omega, by omega⟩ :
      (a.tmod b + b) + b * (a.tdiv b - 1) = a ∧ 0 ≤ a.tmod b + b ∧ a.tmod b + b < b)
    refine Or.inr ⟨by omega, ?_, h1, h2⟩
    by_contra hn
    exact h (Int.tmod_nonneg b (by omega))

/-- The corrected quotient is the quotient rounded down. -/
theorem toInt_quotient (x d : BitVec 32) (hd : 0 < d.toInt) : (quotient x d).toInt = x.toInt / d.toInt := by
  have hq := toInt_divsi x d hd
  have hr := toInt_remsi x d hd
  have lo := BitVec.le_toInt x
  have up := BitVec.toInt_lt (x := x)
  unfold quotient
  rw [WordCmp.cmpi_ne_eq, WordCmp.cmpi_ne_eq, WordCmp.andi_ofBool, WordCmp.select_ofBool, sign_eq x, sign_eq d, if_neg hd.ne', if_neg (by omega : ¬ d.toInt < 0)]
  have z : IntOp.remsi .host x d ≠ 0#32 ↔ x.toInt.tmod d.toInt ≠ 0 := by rw [Ne, eq_zero_iff, hr]
  simp only [z, Bool.and_eq_true, decide_eq_true_eq]
  rcases rounding x.toInt d.toInt hd with ⟨h0, h1, _, h2⟩ | ⟨h0, h1, h2, _⟩
  · rw [if_neg, hq, h1]
    rintro ⟨n, m⟩
    have : 0 < x.toInt := h2.resolve_left m
    rw [if_neg this.ne', if_neg (by omega)] at n
    exact n rfl
  · have hb : -2 ^ 31 ≤ x.toInt / d.toInt := (Int.le_ediv_iff_mul_le hd).mpr (by omega)
    have hn : x.toInt / d.toInt < 0 := Int.ediv_neg_of_neg_of_pos h1 hd
    have one : (1#32 : BitVec 32).toInt = 1 := rfl
    rw [if_pos, h2]
    · show ((IntOp.divsi .host x d) - 1#32).toInt = _
      rw [WordArith.toInt_sub_of_bounds, hq, one] <;> rw [hq, one] <;> omega
    · refine ⟨?_, by omega⟩
      rw [if_neg (by omega), if_pos h1]
      decide

/-- The corrected remainder is the remainder rounded down. -/
theorem toInt_remainder (x d : BitVec 32) (hd : 0 < d.toInt) : (remainder x d).toInt = x.toInt % d.toInt := by
  have hr := toInt_remsi x d hd
  have ud := BitVec.toInt_lt (x := d)
  have gt := Int.lt_tmod_of_pos x.toInt hd
  unfold remainder
  have z : IntOp.remsi .host x d ≠ 0#32 ↔ x.toInt.tmod d.toInt ≠ 0 := by rw [Ne, eq_zero_iff, hr]
  rw [WordCmp.cmpi_slt_eq d, show decide (d.toInt < (0#32 : BitVec 32).toInt) = false from decide_eq_false (by
      show ¬ d.toInt < 0
      omega), WordCmp.cmpi_slt_eq, hr, WordCmp.cmpi_ne_eq, WordCmp.cmpi_ne_eq, WordCmp.andi_ofBool, WordCmp.select_ofBool]
  simp only [z, Bool.and_eq_true, decide_eq_true_eq]
  rcases rounding x.toInt d.toInt hd with ⟨h0, _, h1, _⟩ | ⟨h0, _, _, h1⟩
  · rw [if_neg, hr, h1]
    rintro ⟨n, _⟩
    rw [decide_eq_false (by show ¬ x.toInt.tmod d.toInt < 0; omega)] at n
    exact n rfl
  · rw [if_pos, h1]
    · show (IntOp.remsi .host x d + d).toInt = _
      rw [WordArith.toInt_add_of_bounds, hr] <;> rw [hr] <;> omega
    · refine ⟨?_, by omega⟩
      rw [decide_eq_true (by show x.toInt.tmod d.toInt < 0; omega)]
      decide

/-- A divisor that is not zero is kept. -/
theorem kept (f : BitVec 32) (hf : 0 < f.toInt) : Scalar.select (IntOp.cmpi .eq f 0#32) 1#32 f = f := by
  rw [WordCmp.cmpi_eq_eq, WordCmp.select_ofBool, decide_eq_false (fun h => hf.ne' ((eq_zero_iff f).mp h))]
  rfl

/-- An index that is not negative is kept. -/
theorem unwrapped (y e : BitVec 32) (h : 0 ≤ y.toInt) : Scalar.select (IntOp.cmpi .slt y 0#32) e y = y := by
  rw [WordCmp.cmpi_slt_eq, WordCmp.select_ofBool, decide_eq_false (by show ¬ y.toInt < 0; omega)]
  rfl

/-- A marked channel is one of the 59. -/
theorem channel_bounds (v : ℤ) (c : Fin 10) : 0 ≤ channel v c ∧ channel v c < 59 := by
  fin_cases c <;> simp [channel, first, base, weight] <;> omega

/-- The word of the channel that digit `c` of the code `x` marks, as the reference computes it: of the words of the
    digit's first channel, base and weight. -/
theorem channel_word (x a f d : BitVec 32) (c : Fin 10) (ha : a.toInt = first c) (hf : f.toInt = base c) (hd : d.toInt = weight c) :
    (IntOp.addi a (remainder (quotient x d) (Scalar.select (IntOp.cmpi .eq f 0#32) 1#32 f))).toInt = channel x.toInt c := by
  have pf : 0 < f.toInt := by rw [hf]; fin_cases c <;> decide
  have pd : 0 < d.toInt := by rw [hd]; fin_cases c <;> decide
  have e : (remainder (quotient x d) f).toInt = x.toInt / weight c % base c := by
    rw [toInt_remainder _ _ pf, toInt_quotient _ _ pd, hf, hd]
  have b := channel_bounds x.toInt c
  unfold channel at b ⊢
  rw [kept f pf]
  show (a + remainder (quotient x d) f).toInt = _
  rw [WordArith.toInt_add_of_bounds, ha, e] <;> rw [ha, e] <;> omega

end Cert.Decode

end
-- ==== Proof.ReferenceIdealValue.lean ====
/-
  The reference's result as a scatter: every index array it is formed with, at an index.

  The reference scatters ones into zeros, one update for each (batch, digit, position), at a place given by three words laid
  side by side: the batch, the channel that the digit marks, and the position. Each word passes a wrap of negative
  indices, which none of them needs.
-/
module

public import proofs.«01_k».proof.Proof.Gen.ReferenceIdeal.Run
public import proofs.«01_k».proof.Proof.HostDigits
public import Idealize.ShloMosaic.Lib.Routing.OpsPair

@[expose] public section

set_option maxRecDepth 16384

noncomputable section

namespace Cert.ReferenceIdeal.Scatter

open Cert.ReferenceIdeal Cert.ReferenceIdeal.Gen
open Idealize.ShloMosaic Idealize.ShloMosaic.TcCoe
open Idealize.SL.Sem
open Cert.Decode

/-- The scatter of the reference, by its dimensions. -/
abbrev D : ScatterDims S4096x59x165 S4096x10x165x3 S4096x10x165 := scatter_S4096x59x165_S4096x10x165x3_S4096x10x165_n_012_012_3

/-- Nothing of an update is a window: each is one element. -/
theorem no_window (j : S4096x10x165.Idx) (a : Fin 3) : D.window j a = 0 := by
  fin_cases a <;> rfl

/-- Update `j` reads word `a` of its place at `j` followed by `a`. -/
theorem start_eq (j : S4096x10x165.Idx) (idx : IVec S4096x10x165x3 32) (a : Fin 3) :
    D.start j idx a = (idx (ix4 (j 0) (j 1) (j 2) a)).toInt := by
  have h : ∀ b : Fin 4, (D.siIdx j a b).val = ((ix4 (j 0) (j 1) (j 2) a : S4096x10x165x3.Idx) b).val := by
    intro b
    fin_cases b <;> rfl
  have e : D.siIdx j a = ix4 (j 0) (j 1) (j 2) a := funext fun b => Fin.ext (h b)
  refine Eq.trans ?_ (congrArg (fun i => (idx i).toInt) e)
  fin_cases a <;> rfl

variable (m : (ℓ : Loc nD τ sig) → Buf (Elt Ideal) ℓ) (ρ : Dev nD → PrngReg)

/-- The codes. -/
abbrev codes (c : Dev nD) : S4096x165.Idx → BitVec 32 := m ((c.tc : Thread nD τ).loc main_arg0)

/-- A place's three words, read off the three tables laid side by side. -/
theorem joined (u0 u1 u2 : S4096x10x165x1.Idx → BitVec 32) (j : S4096x10x165.Idx) (a : Fin 3) :
    concatenate S4096x10x165x3 3 [⟨S4096x10x165x1, u0⟩, ⟨S4096x10x165x1, u1⟩, ⟨S4096x10x165x1, u2⟩]
      concatenates_S4096x10x165x1_S4096x10x165x1_S4096x10x165x1_S4096x10x165x3_d3 (ix4 (j 0) (j 1) (j 2) a)
      = ![u0, u1, u2] a (ix4 (j 0) (j 1) (j 2) 0) := by
  have side : ∀ b : Fin S4096x10x165x1.rank, b.cast (rfl : S4096x10x165x1.rank = S4096x10x165x3.rank) ≠ 3 →
      ((ix4 (j 0) (j 1) (j 2) 0 : S4096x10x165x1.Idx) b).val
        = ((ix4 (j 0) (j 1) (j 2) a : S4096x10x165x3.Idx) (b.cast (rfl : S4096x10x165x1.rank = S4096x10x165x3.rank))).val := by
    intro b h
    match b with
    | ⟨0, _⟩ => rfl
    | ⟨1, _⟩ => rfl
    | ⟨2, _⟩ => rfl
    | ⟨3, _⟩ => exact absurd rfl h
  have key : ∀ u : S4096x10x165x1.Idx → BitVec 32, u = ![u0, u1, u2] a → _ := fun u hu =>
    concatenate_apply_piece (t := S4096x10x165x3) 3 [⟨S4096x10x165x1, u0⟩, ⟨S4096x10x165x1, u1⟩, ⟨S4096x10x165x1, u2⟩]
      concatenates_S4096x10x165x1_S4096x10x165x1_S4096x10x165x1_S4096x10x165x3_d3 (ix4 (j 0) (j 1) (j 2) a) a.val a.isLt
      S4096x10x165x1 u (by subst hu; fin_cases a <;> rfl) rfl a.val (by fin_cases a <;> rfl) (ix4 (j 0) (j 1) (j 2) 0) side rfl
  exact key _ rfl

/-- The three tables of constants, at a digit: its base, first channel and weight. -/
theorem tables (c : Fin 10) : (lit0 (S10.rowMajor (ix1 c))).toInt = base c ∧ (lit1 (S1x10x1.rowMajor (ix3 0 c 0))).toInt = first c
    ∧ (lit2 (S1x10x1.rowMajor (ix3 0 c 0))).toInt = weight c := by
  fin_cases c <;> exact ⟨rfl, rfl, rfl⟩

/-- A small index is its word, wrapped or not. -/
theorem iota_word (n : ℕ) (h : n < 2 ^ 31) (e : BitVec 32) :
    (Scalar.select (IntOp.cmpi .slt (BitVec.ofNat 32 n) 0#32) e (BitVec.ofNat 32 n)).toInt = n := by
  have hn := WordArith.toInt_ofNat_small n h
  rw [unwrapped _ _ (by omega), hn]

/-- The reference's result is a scatter of ones into zeros, update (batch, digit, position) at the place of three words:
    the batch, the channel that the digit of the code there marks, and the position. -/
theorem split (c : Dev nD) : ∃ idx : IVec S4096x10x165x3 32,
    Value.res_main_v34 m c = shapeCast _ (Host.scatter D (fun _ b => b)
      (broadcastInDim S4096x59x165 ![] bcast_S_S4096x59x165 (constant (F := Ideal) S_ .f32 0x00000000#32)) idx
      (broadcastInDim S4096x10x165 ![] bcast_S_S4096x10x165 (constant (F := Ideal) S_ .f32 0x3F800000#32))) shapeCasts_S4096x59x165_S4096x59x11x15
    ∧ ∀ j : S4096x10x165.Idx, (idx (ix4 (j 0) (j 1) (j 2) 0)).toInt = (j 0).val ∧
      (idx (ix4 (j 0) (j 1) (j 2) 1)).toInt = channel (codes m c (ix2 (j 0) (j 2))).toInt (j 1)
      ∧ (idx (ix4 (j 0) (j 1) (j 2) 2)).toInt = (j 2).val := by
  refine ⟨_, rfl, fun j => ⟨?_, ?_, ?_⟩⟩
  · refine (congrArg BitVec.toInt (joined _ _ _ j 0)).trans ?_
    pointwise []
    exact iota_word (j 0).val (by have : (j 0).val < 4096 := (j 0).isLt; omega) _
  · refine (congrArg BitVec.toInt (joined _ _ _ j 1)).trans ?_
    pointwise [signi]
    have h := channel_word (codes m c (ix2 (j 0) (j 2))) _ _ _ (j 1) (tables (j 1)).2.1 (tables (j 1)).1 (tables (j 1)).2.2
    refine (congrArg BitVec.toInt (unwrapped _ _ ?_)).trans h
    exact h ▸ (channel_bounds _ _).1
  · refine (congrArg BitVec.toInt (joined _ _ _ j 2)).trans ?_
    pointwise []
    exact iota_word (j 2).val (by have : (j 2).val < 165 := (j 2).isLt; omega) _

end Cert.ReferenceIdeal.Scatter

end
-- ==== Proof.ReferenceIdealResult.lean ====
/-
  The reference's result: the answer.

  A scatter that writes the same value at every place it reaches leaves that value wherever some update lands, and the
  operand elsewhere; an update lands on a channel when the digit it stands for marks that channel.
-/
module

public import proofs.«01_k».proof.Proof.ReferenceIdealValue

@[expose] public section

set_option maxRecDepth 16384

noncomputable section

namespace Cert.ReferenceIdeal.Scatter

open Cert.ReferenceIdeal Cert.ReferenceIdeal.Gen
open Idealize.ShloMosaic Idealize.ShloMosaic.TcCoe
open Idealize.SL.Sem
open Cert.Decode

/-- Folding writes of one value leaves that value if any of them is made. -/
theorem fold_writes {β γ : Type} (P : β → Prop) [DecidablePred P] (w : β → γ) (v : γ) (hw : ∀ n, w n = v) (l : List β) (a : γ) :
    l.foldl (fun acc n => if P n then w n else acc) a = if ∃ n ∈ l, P n then v else a := by
  induction l generalizing a with
  | nil => simp
  | cons x l ih =>
    rw [List.foldl_cons, ih]
    by_cases hl : ∃ n ∈ l, P n
    · rw [if_pos hl, if_pos (hl.imp fun n h => ⟨List.mem_cons_of_mem _ h.1, h.2⟩)]
    · rw [if_neg hl, hw]
      refine if_congr ⟨fun h => ⟨x, List.mem_cons_self, h⟩, fun ⟨n, hn, h⟩ => ?_⟩ rfl rfl
      rcases List.mem_cons.mp hn with e | e
      · exact e ▸ h
      · exact absurd ⟨n, e, h⟩ hl

/-- A scatter whose updates are all the value `v` leaves `v` wherever some update lands, and the operand elsewhere. -/
theorem scatter_const {α : Type} {s si u : Shape} {w : ℕ} (d : ScatterDims s si u) (x : s.Idx → α) (idx : IVec si w) (upd : u.Idx → α) (v : α)
    (hu : ∀ j, upd j = v) (ι : s.Idx) [Decidable (∃ j : u.Idx, d.resultIdx? j idx = some ι)] :
    Host.scatter d (fun _ b => b) x idx upd ι = if ∃ j : u.Idx, d.resultIdx? j idx = some ι then v else x ι := by
  refine (Routing.scatter_at d (fun _ b => b) x idx upd ι).trans ((fold_writes (fun n => d.resultIdx? (u.rowMajor.symm n) idx = some ι)
    (fun n => upd (u.rowMajor.symm n)) v (fun n => hu _) _ _).trans ?_)
  by_cases hj : ∃ j : u.Idx, d.resultIdx? j idx = some ι
  · obtain ⟨j, h⟩ := hj
    exact (if_pos ⟨u.rowMajor j, List.mem_finRange _, (congrArg (d.resultIdx? · idx) (Equiv.symm_apply_apply _ j)).trans h⟩).trans (if_pos ⟨j, h⟩).symm
  · exact (if_neg fun ⟨_, _, h⟩ => hj ⟨_, h⟩).trans (if_neg hj).symm

/-- The update of (batch, digit, position) lands at that batch and position, on the channel the digit marks. -/
theorem landing (idx : IVec S4096x10x165x3 32) (x : S4096x165.Idx → BitVec 32)
    (h : ∀ j : S4096x10x165.Idx, (idx (ix4 (j 0) (j 1) (j 2) 0)).toInt = (j 0).val ∧
      (idx (ix4 (j 0) (j 1) (j 2) 1)).toInt = channel (x (ix2 (j 0) (j 2))).toInt (j 1)
      ∧ (idx (ix4 (j 0) (j 1) (j 2) 2)).toInt = (j 2).val)
    (j : S4096x10x165.Idx) (ι : S4096x59x165.Idx) :
    D.resultIdx? j idx = some ι ↔
      ((j 0).val = (ι 0).val ∧ channel (x (ix2 (j 0) (j 2))).toInt (j 1) = (ι 1).val ∧ (j 2).val = (ι 2).val) := by
  obtain ⟨h0, h1, h2⟩ := h j
  rw [Routing.resultIdx?_eq_some]
  have s0 := (start_eq j idx 0).trans h0
  have s1 := (start_eq j idx 1).trans h1
  have s2 := (start_eq j idx 2).trans h2
  constructor
  · intro q
    have q0 := q 0
    have q1 := q 1
    have q2 := q 2
    rw [no_window j] at q0 q1 q2
    rw [s0] at q0
    rw [s1] at q1
    rw [s2] at q2
    exact ⟨by omega, by omega, by omega⟩
  · rintro ⟨q0, q1, q2⟩ a
    rw [no_window j]
    match a with
    | ⟨0, _⟩ => exact (congrArg (· + _) s0).trans (by simpa using q0)
    | ⟨1, _⟩ => exact (congrArg (· + _) s1).trans (by simpa using q1)
    | ⟨2, _⟩ => exact (congrArg (· + _) s2).trans (by simpa using q2)

/-- Some update lands on a place exactly when its channel is marked by a digit of the code at its batch and position. -/
theorem landed (idx : IVec S4096x10x165x3 32) (x : S4096x165.Idx → BitVec 32)
    (h : ∀ j : S4096x10x165.Idx, (idx (ix4 (j 0) (j 1) (j 2) 0)).toInt = (j 0).val ∧
      (idx (ix4 (j 0) (j 1) (j 2) 1)).toInt = channel (x (ix2 (j 0) (j 2))).toInt (j 1)
      ∧ (idx (ix4 (j 0) (j 1) (j 2) 2)).toInt = (j 2).val)
    (b : Fin 4096) (ch : Fin 59) (k : Fin 165) :
    (∃ j, D.resultIdx? j idx = some (ix3 b ch k)) ↔ Marked (x (ix2 b k)).toInt ch.val := by
  constructor
  · rintro ⟨j, hj⟩
    obtain ⟨q0, q1, q2⟩ := (landing idx x h j _).mp hj
    have e0 : j 0 = b := Fin.ext q0
    have e2 : j 2 = k := Fin.ext q2
    rw [e0, e2] at q1
    exact ⟨j 1, q1⟩
  · rintro ⟨c, hc⟩
    exact ⟨ix3 b c k, (landing idx x h (ix3 b c k) _).mpr ⟨rfl, hc, rfl⟩⟩

variable (m : (ℓ : Loc nD τ sig) → Buf (Elt Ideal) ℓ) (ρ : Dev nD → PrngReg)

/-- The reference's result is the answer for its codes. -/
theorem result (c : Dev nD) : Value.res_main_v34 m c = answer (codes m c) := by
  obtain ⟨idx, e, h⟩ := split m c
  rw [e]
  funext i
  refine (shapeCast_apply _ shapeCasts_S4096x59x165_S4096x59x11x15 i (ix3 (i 0) (i 1) (position (i 2) (i 3))) ?_).trans ?_
  · refine (Shape.rowMajor_val_three _).trans (Eq.trans ?_ (Shape.rowMajor_val_four _).symm)
    show ((i 0).val * 59 + (i 1).val) * 165 + (15 * (i 2).val + (i 3).val) = (((i 0).val * 59 + (i 1).val) * 11 + (i 2).val) * 15 + (i 3).val
    omega
  · have one : Ideal.ofBits .f32 0x3F800000#32 = (1 : EReal) := by
      simp [Ideal.ofBits, Ideal.ieee, -EReal.coe_mul]
      norm_num
    have zero : Ideal.ofBits .f32 0x00000000#32 = (0 : EReal) := by simp [Ideal.ofBits, Ideal.ieee]
    classical
    refine (scatter_const D _ idx _ (1 : EReal) (fun _ => one) _).trans ?_
    exact if_congr (landed idx (codes m c) h (i 0) (i 1) (position (i 2) (i 3))) rfl zero

/-- The reference runs to its end with the answer in its result and its argument as it was. -/
theorem value : θ_run defs (onTc (τ := τ) (main (F := Ideal))) ⟨m, fun _ => 0, ρ⟩ (fun r => ∀ c : Dev nD,
    r.2.mem ((c.tc : Thread nD τ).loc main_v34) = answer (codes m c)
      ∧ r.2.mem ((c.tc : Thread nD τ).loc main_arg0) = m ((c.tc : Thread nD τ).loc main_arg0)) :=
  (θ_run defs _ _).mono (fun _ h c => ⟨(h c).1.trans (result m c), (h c).2⟩) (Value.run (F := Ideal) m ρ)

end Cert.ReferenceIdeal.Scatter

end
-- ==== Proof.lean ====
/-
  The proof of `Cert.Claim`: the kernel's frame as printed and at the ideal instance, the reference's frame, that the
  idealization rewrites nothing, and that kernel and reference, at the ideal instance and on the same codes, end with the
  same result: both hold the answer of Proof/Digits.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.ReferenceIdealResult

@[expose] public section

noncomputable section

namespace Cert.Proof

open Idealize.ShloMosaic Idealize.SL.Sem

/-- The kernel runs to its end, leaves its argument as it was and every semaphore counter at zero. -/
theorem frame_kernel : Cert.quiescent_Kernel := fun m ρ _ => Cert.Kernel.Body.frame_quiet (F := Bits) m ρ

/-- So does its idealization. -/
theorem frame_kernelIdeal : Cert.quiescent_KernelIdeal := fun m ρ _ => Cert.KernelIdeal.Body.frame_quiet (F := Ideal) m ρ

/-- So does the reference, which names no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On equal codes the idealized kernel and the idealized reference end with equal results. -/
theorem algebraic : Cert.algebraic_KernelIdeal_ReferenceIdeal := fun m g m' g' _ hm =>
  ⟨fun c => Cert.Decode.answer (Cert.KernelIdeal.Body.codes m c), Cert.KernelIdeal.Body.value m g,
    (θ_run Cert.ReferenceIdeal.defs _ _).mono
      (fun _ h c => ⟨(h c).1.trans (congrArg Cert.Decode.answer (hm c)), (h c).2⟩)
      (Cert.ReferenceIdeal.Scatter.value m' g')⟩

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
